-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v282) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2048x128 : Shape := ⟨3, ![16, 2048, 128]⟩
abbrev S1408 : Shape := ⟨1, ![1408]⟩
abbrev S32768x128 : Shape := ⟨2, ![32768, 128]⟩
abbrev S1x1408 : Shape := ⟨2, ![1, 1408]⟩
abbrev S128x1408 : Shape := ⟨2, ![128, 1408]⟩
abbrev S_ : Shape := ⟨0, ![]⟩
abbrev S6x1408 : Shape := ⟨2, ![6, 1408]⟩
abbrev S8x1408 : Shape := ⟨2, ![8, 1408]⟩
abbrev S1408x128 : Shape := ⟨2, ![1408, 128]⟩
abbrev S32768x1408 : Shape := ⟨2, ![32768, 1408]⟩
abbrev S256x128 : Shape := ⟨2, ![256, 128]⟩
abbrev S256x1408 : Shape := ⟨2, ![256, 1408]⟩

abbrev nBuf : Space → Nat
  | .hbm => 26
  | .vmem => 7
  | .smem => 0
  | _ => 0

abbrev bufTy : (tb : Table) → Fin (tcTables nBuf tb) → BufTy
  | .hbm, ⟨0, _⟩ => ⟨S16x2048x128, .f32⟩
  | .hbm, ⟨1, _⟩ => ⟨S1408, .i32⟩
  | .hbm, ⟨2, _⟩ => ⟨S1408, .f32⟩
  | .hbm, ⟨3, _⟩ => ⟨S1408, .f32⟩
  | .hbm, ⟨4, _⟩ => ⟨S32768x128, .f32⟩
  | .hbm, ⟨5, _⟩ => ⟨S1x1408, .i32⟩
  | .hbm, ⟨6, _⟩ => ⟨S128x1408, .i32⟩
  | .hbm, ⟨7, _⟩ => ⟨S128x1408, .i32⟩
  | .hbm, ⟨8, _⟩ => ⟨S128x1408, .i1⟩
  | .hbm, ⟨9, _⟩ => ⟨S_, .f32⟩
  | .hbm, ⟨10, _⟩ => ⟨S_, .f32⟩
  | .hbm, ⟨11, _⟩ => ⟨S128x1408, .f32⟩
  | .hbm, ⟨12, _⟩ => ⟨S128x1408, .f32⟩
  | .hbm, ⟨13, _⟩ => ⟨S128x1408, .f32⟩
  | .hbm, ⟨14, _⟩ => ⟨S128x1408, .bf16⟩
  | .hbm, ⟨15, _⟩ => ⟨S1x1408, .f32⟩
  | .hbm, ⟨16, _⟩ => ⟨S1408, .f32⟩
  | .hbm, ⟨17, _⟩ => ⟨S_, .f32⟩
  | .hbm, ⟨18, _⟩ => ⟨S1408, .f32⟩
  | .hbm, ⟨19, _⟩ => ⟨S1408, .f32⟩
  | .hbm, ⟨20, _⟩ => ⟨S1x1408, .f32⟩
  | .hbm, ⟨21, _⟩ => ⟨S_, .f32⟩
  | .hbm, ⟨22, _⟩ => ⟨S6x1408, .f32⟩
  | .hbm, ⟨23, _⟩ => ⟨S8x1408, .f32⟩
  | .hbm, ⟨24, _⟩ => ⟨S1408x128, .bf16⟩
  | .hbm, ⟨25, _⟩ => ⟨S32768x1408, .f32⟩
  | .local _ .vmem, ⟨0, _⟩ => ⟨S256x128, .f32⟩
  | .local _ .vmem, ⟨1, _⟩ => ⟨S256x128, .f32⟩
  | .local _ .vmem, ⟨2, _⟩ => ⟨S128x1408, .bf16⟩
  | .local _ .vmem, ⟨3, _⟩ => ⟨S1408x128, .bf16⟩
  | .local _ .vmem, ⟨4, _⟩ => ⟨S8x1408, .f32⟩
  | .local _ .vmem, ⟨5, _⟩ => ⟨S256x1408, .f32⟩
  | .local _ .vmem, ⟨6, _⟩ => ⟨S256x1408, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1408x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x2048x128 : Shape := ⟨3, ![16, 2048, 128]⟩
abbrev S_ : Shape := ⟨0, ![]⟩
abbrev S16x2048x128x1 : Shape := ⟨4, ![16, 2048, 128, 1]⟩
abbrev S16x2048x128x11 : Shape := ⟨4, ![16, 2048, 128, 11]⟩
abbrev S32768x1408 : Shape := ⟨2, ![32768, 1408]⟩

abbrev nBuf : Space → Nat
  | .hbm => 407
  | .vmem => 0
  | .smem => 0
  | _ => 0

abbrev hbmTy0_0 (i : Nat) : BufTy := match i % 128 with
  | 0 => ⟨S16x2048x128, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S16x2048x128, .f32⟩
  | 18 => ⟨S16x2048x128, .f32⟩
  | 19 => ⟨S_, .f32⟩
  | 20 => ⟨S16x2048x128, .f32⟩
  | 21 => ⟨S16x2048x128, .f32⟩
  | 22 => ⟨S16x2048x128, .f32⟩
  | 23 => ⟨S_, .f32⟩
  | 24 => ⟨S16x2048x128, .f32⟩
  | 25 => ⟨S16x2048x128, .f32⟩
  | 26 => ⟨S16x2048x128, .f32⟩
  | 27 => ⟨S_, .f32⟩
  | 28 => ⟨S_, .f32⟩
  | 29 => ⟨S_, .f32⟩
  | 30 => ⟨S_, .f32⟩
  | 31 => ⟨S_, .f32⟩
  | 32 => ⟨S16x2048x128, .f32⟩
  | 33 => ⟨S16x2048x128, .f32⟩
  | 34 => ⟨S16x2048x128, .f32⟩
  | 35 => ⟨S16x2048x128, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S16x2048x128, .f32⟩
  | 53 => ⟨S16x2048x128, .f32⟩
  | 54 => ⟨S_, .f32⟩
  | 55 => ⟨S16x2048x128, .f32⟩
  | 56 => ⟨S16x2048x128, .f32⟩
  | 57 => ⟨S16x2048x128, .f32⟩
  | 58 => ⟨S_, .f32⟩
  | 59 => ⟨S16x2048x128, .f32⟩
  | 60 => ⟨S16x2048x128, .f32⟩
  | 61 => ⟨S16x2048x128, .f32⟩
  | 62 => ⟨S_, .f32⟩
  | 63 => ⟨S_, .f32⟩
  | 64 => ⟨S_, .f32⟩
  | 65 => ⟨S_, .f32⟩
  | 66 => ⟨S_, .f32⟩
  | 67 => ⟨S16x2048x128, .f32⟩
  | 68 => ⟨S16x2048x128, .f32⟩
  | 69 => ⟨S16x2048x128, .f32⟩
  | 70 => ⟨S16x2048x128, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S16x2048x128, .f32⟩
  | 88 => ⟨S16x2048x128, .f32⟩
  | 89 => ⟨S_, .f32⟩
  | 90 => ⟨S16x2048x128, .f32⟩
  | 91 => ⟨S16x2048x128, .f32⟩
  | 92 => ⟨S16x2048x128, .f32⟩
  | 93 => ⟨S_, .f32⟩
  | 94 => ⟨S16x2048x128, .f32⟩
  | 95 => ⟨S16x2048x128, .f32⟩
  | 96 => ⟨S16x2048x128, .f32⟩
  | 97 => ⟨S_, .f32⟩
  | 98 => ⟨S_, .f32⟩
  | 99 => ⟨S_, .f32⟩
  | 100 => ⟨S_, .f32⟩
  | 101 => ⟨S_, .f32⟩
  | 102 => ⟨S16x2048x128, .f32⟩
  | 103 => ⟨S16x2048x128, .f32⟩
  | 104 => ⟨S16x2048x128, .f32⟩
  | 105 => ⟨S16x2048x128, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S16x2048x128, .f32⟩
  | 123 => ⟨S16x2048x128, .f32⟩
  | 124 => ⟨S_, .f32⟩
  | 125 => ⟨S16x2048x128, .f32⟩
  | 126 => ⟨S16x2048x128, .f32⟩
  | 127 => ⟨S16x2048x128, .f32⟩
  | _ => ⟨S16x2048x128, .f32⟩

abbrev hbmTy0_1 (i : Nat) : BufTy := match i % 128 with
  | 0 => ⟨S_, .f32⟩
  | 1 => ⟨S16x2048x128, .f32⟩
  | 2 => ⟨S16x2048x128, .f32⟩
  | 3 => ⟨S16x2048x128, .f32⟩
  | 4 => ⟨S_, .f32⟩
  | 5 => ⟨S_, .f32⟩
  | 6 => ⟨S_, .f32⟩
  | 7 => ⟨S_, .f32⟩
  | 8 => ⟨S_, .f32⟩
  | 9 => ⟨S16x2048x128, .f32⟩
  | 10 => ⟨S16x2048x128, .f32⟩
  | 11 => ⟨S16x2048x128, .f32⟩
  | 12 => ⟨S16x2048x128, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S16x2048x128, .f32⟩
  | 30 => ⟨S16x2048x128, .f32⟩
  | 31 => ⟨S_, .f32⟩
  | 32 => ⟨S16x2048x128, .f32⟩
  | 33 => ⟨S16x2048x128, .f32⟩
  | 34 => ⟨S16x2048x128, .f32⟩
  | 35 => ⟨S_, .f32⟩
  | 36 => ⟨S16x2048x128, .f32⟩
  | 37 => ⟨S16x2048x128, .f32⟩
  | 38 => ⟨S16x2048x128, .f32⟩
  | 39 => ⟨S_, .f32⟩
  | 40 => ⟨S_, .f32⟩
  | 41 => ⟨S_, .f32⟩
  | 42 => ⟨S_, .f32⟩
  | 43 => ⟨S_, .f32⟩
  | 44 => ⟨S16x2048x128, .f32⟩
  | 45 => ⟨S16x2048x128, .f32⟩
  | 46 => ⟨S16x2048x128, .f32⟩
  | 47 => ⟨S16x2048x128, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S16x2048x128, .f32⟩
  | 65 => ⟨S16x2048x128, .f32⟩
  | 66 => ⟨S_, .f32⟩
  | 67 => ⟨S16x2048x128, .f32⟩
  | 68 => ⟨S16x2048x128, .f32⟩
  | 69 => ⟨S16x2048x128, .f32⟩
  | 70 => ⟨S_, .f32⟩
  | 71 => ⟨S16x2048x128, .f32⟩
  | 72 => ⟨S16x2048x128, .f32⟩
  | 73 => ⟨S16x2048x128, .f32⟩
  | 74 => ⟨S_, .f32⟩
  | 75 => ⟨S_, .f32⟩
  | 76 => ⟨S_, .f32⟩
  | 77 => ⟨S_, .f32⟩
  | 78 => ⟨S_, .f32⟩
  | 79 => ⟨S16x2048x128, .f32⟩
  | 80 => ⟨S16x2048x128, .f32⟩
  | 81 => ⟨S16x2048x128, .f32⟩
  | 82 => ⟨S16x2048x128, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S16x2048x128, .f32⟩
  | 100 => ⟨S16x2048x128, .f32⟩
  | 101 => ⟨S_, .f32⟩
  | 102 => ⟨S16x2048x128, .f32⟩
  | 103 => ⟨S16x2048x128, .f32⟩
  | 104 => ⟨S16x2048x128, .f32⟩
  | 105 => ⟨S_, .f32⟩
  | 106 => ⟨S16x2048x128, .f32⟩
  | 107 => ⟨S16x2048x128, .f32⟩
  | 108 => ⟨S16x2048x128, .f32⟩
  | 109 => ⟨S_, .f32⟩
  | 110 => ⟨S_, .f32⟩
  | 111 => ⟨S_, .f32⟩
  | 112 => ⟨S_, .f32⟩
  | 113 => ⟨S_, .f32⟩
  | 114 => ⟨S16x2048x128, .f32⟩
  | 115 => ⟨S16x2048x128, .f32⟩
  | 116 => ⟨S16x2048x128, .f32⟩
  | 117 => ⟨S16x2048x128, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S16x2048x128, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S16x2048x128, .f32⟩
  | 7 => ⟨S16x2048x128, .f32⟩
  | 8 => ⟨S_, .f32⟩
  | 9 => ⟨S16x2048x128, .f32⟩
  | 10 => ⟨S16x2048x128, .f32⟩
  | 11 => ⟨S16x2048x128, .f32⟩
  | 12 => ⟨S_, .f32⟩
  | 13 => ⟨S16x2048x128, .f32⟩
  | 14 => ⟨S16x2048x128, .f32⟩
  | 15 => ⟨S16x2048x128, .f32⟩
  | 16 => ⟨S_, .f32⟩
  | 17 => ⟨S_, .f32⟩
  | 18 => ⟨S_, .f32⟩
  | 19 => ⟨S_, .f32⟩
  | 20 => ⟨S_, .f32⟩
  | 21 => ⟨S16x2048x128, .f32⟩
  | 22 => ⟨S16x2048x128, .f32⟩
  | 23 => ⟨S16x2048x128, .f32⟩
  | 24 => ⟨S16x2048x128, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S16x2048x128, .f32⟩
  | 42 => ⟨S16x2048x128, .f32⟩
  | 43 => ⟨S_, .f32⟩
  | 44 => ⟨S16x2048x128, .f32⟩
  | 45 => ⟨S16x2048x128, .f32⟩
  | 46 => ⟨S16x2048x128, .f32⟩
  | 47 => ⟨S_, .f32⟩
  | 48 => ⟨S16x2048x128, .f32⟩
  | 49 => ⟨S16x2048x128, .f32⟩
  | 50 => ⟨S16x2048x128, .f32⟩
  | 51 => ⟨S_, .f32⟩
  | 52 => ⟨S_, .f32⟩
  | 53 => ⟨S_, .f32⟩
  | 54 => ⟨S_, .f32⟩
  | 55 => ⟨S_, .f32⟩
  | 56 => ⟨S16x2048x128, .f32⟩
  | 57 => ⟨S16x2048x128, .f32⟩
  | 58 => ⟨S16x2048x128, .f32⟩
  | 59 => ⟨S16x2048x128, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S16x2048x128, .f32⟩
  | 77 => ⟨S16x2048x128, .f32⟩
  | 78 => ⟨S_, .f32⟩
  | 79 => ⟨S16x2048x128, .f32⟩
  | 80 => ⟨S16x2048x128, .f32⟩
  | 81 => ⟨S16x2048x128, .f32⟩
  | 82 => ⟨S_, .f32⟩
  | 83 => ⟨S16x2048x128, .f32⟩
  | 84 => ⟨S16x2048x128, .f32⟩
  | 85 => ⟨S16x2048x128, .f32⟩
  | 86 => ⟨S_, .f32⟩
  | 87 => ⟨S_, .f32⟩
  | 88 => ⟨S_, .f32⟩
  | 89 => ⟨S_, .f32⟩
  | 90 => ⟨S_, .f32⟩
  | 91 => ⟨S16x2048x128, .f32⟩
  | 92 => ⟨S16x2048x128, .f32⟩
  | 93 => ⟨S16x2048x128, .f32⟩
  | 94 => ⟨S16x2048x128, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S16x2048x128, .f32⟩
  | 112 => ⟨S16x2048x128, .f32⟩
  | 113 => ⟨S_, .f32⟩
  | 114 => ⟨S16x2048x128, .f32⟩
  | 115 => ⟨S16x2048x128, .f32⟩
  | 116 => ⟨S16x2048x128, .f32⟩
  | 117 => ⟨S_, .f32⟩
  | 118 => ⟨S16x2048x128, .f32⟩
  | 119 => ⟨S16x2048x128, .f32⟩
  | 120 => ⟨S16x2048x128, .f32⟩
  | 121 => ⟨S_, .f32⟩
  | 122 => ⟨S_, .f32⟩
  | 123 => ⟨S_, .f32⟩
  | 124 => ⟨S_, .f32⟩
  | 125 => ⟨S_, .f32⟩
  | 126 => ⟨S16x2048x128, .f32⟩
  | 127 => ⟨S16x2048x128, .f32⟩
  | _ => ⟨S16x2048x128, .f32⟩

abbrev hbmTy0_3 (i : Nat) : BufTy := match i % 128 with
  | 0 => ⟨S16x2048x128, .f32⟩
  | 1 => ⟨S16x2048x128, .f32⟩
  | 2 => ⟨S16x2048x128x1, .f32⟩
  | 3 => ⟨S16x2048x128x1, .f32⟩
  | 4 => ⟨S16x2048x128x1, .f32⟩
  | 5 => ⟨S16x2048x128x1, .f32⟩
  | 6 => ⟨S16x2048x128x1, .f32⟩
  | 7 => ⟨S16x2048x128x1, .f32⟩
  | 8 => ⟨S16x2048x128x1, .f32⟩
  | 9 => ⟨S16x2048x128x1, .f32⟩
  | 10 => ⟨S16x2048x128x1, .f32⟩
  | 11 => ⟨S16x2048x128x1, .f32⟩
  | 12 => ⟨S16x2048x128x1, .f32⟩
  | 13 => ⟨S16x2048x128x11, .f32⟩
  | 14 => ⟨S_, .f32⟩
  | 15 => ⟨S16x2048x128, .f32⟩
  | 16 => ⟨S16x2048x128x1, .f32⟩
  | 17 => ⟨S_, .f32⟩
  | 18 => ⟨S16x2048x128x1, .f32⟩
  | 19 => ⟨S16x2048x128x1, .f32⟩
  | 20 => ⟨S16x2048x128x11, .f32⟩
  | 21 => ⟨S16x2048x128x11, .f32⟩
  | 22 => ⟨S32768x1408, .f32⟩
  | _ => ⟨S16x2048x128, .f32⟩

abbrev hbmTy (i : Nat) : BufTy := match i / 128 with
  | 0 => hbmTy0_0 i
  | 1 => hbmTy0_1 i
  | 2 => hbmTy0_2 i
  | 3 => hbmTy0_3 i
  | _ => ⟨S16x2048x128, .f32⟩

abbrev bufTy : (tb : Table) → Fin (tcTables nBuf tb) → BufTy
  | .hbm, ⟨i, _⟩ => hbmTy i
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_cst_1 : Ref sig .tc := ⟨.hbm, 4, rfl⟩
abbrev main_v1 : Ref sig .tc := ⟨.hbm, 5, rfl⟩
abbrev main_v2 : Ref sig .tc := ⟨.hbm, 6, rfl⟩
abbrev main_cst_2 : Ref sig .tc := ⟨.hbm, 7, rfl⟩
abbrev main_v3 : Ref sig .tc := ⟨.hbm, 8, rfl⟩
abbrev main_v4 : Ref sig .tc := ⟨.hbm, 9, rfl⟩
abbrev main_cst_3 : Ref sig .tc := ⟨.hbm, 10, rfl⟩
abbrev main_v5 : Ref sig .tc := ⟨.hbm, 11, rfl⟩
abbrev main_cst_4 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_5 : Ref sig .tc := ⟨.hbm, 16, rfl⟩
abbrev main_v9 : Ref sig .tc := ⟨.hbm, 17, rfl⟩
abbrev main_v10 : Ref sig .tc := ⟨.hbm, 18, rfl⟩
abbrev main_cst_6 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_7 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_8 : Ref sig .tc := ⟨.hbm, 27, rfl⟩
abbrev main_v17 : Ref sig .tc := ⟨.hbm, 28, rfl⟩
abbrev main_cst_9 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_10 : Ref sig .tc := ⟨.hbm, 36, rfl⟩
abbrev main_cst_11 : Ref sig .tc := ⟨.hbm, 37, rfl⟩
abbrev main_v24 : Ref sig .tc := ⟨.hbm, 38, rfl⟩
abbrev main_cst_12 : Ref sig .tc := ⟨.hbm, 39, rfl⟩
abbrev main_v25 : Ref sig .tc := ⟨.hbm, 40, rfl⟩
abbrev main_v26 : Ref sig .tc := ⟨.hbm, 41, rfl⟩
abbrev main_cst_13 : Ref sig .tc := ⟨.hbm, 42, rfl⟩
abbrev main_v27 : Ref sig .tc := ⟨.hbm, 43, rfl⟩
abbrev main_v28 : Ref sig .tc := ⟨.hbm, 44, rfl⟩
abbrev main_cst_14 : Ref sig .tc := ⟨.hbm, 45, rfl⟩
abbrev main_v29 : Ref sig .tc := ⟨.hbm, 46, rfl⟩
abbrev main_cst_15 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_16 : Ref sig .tc := ⟨.hbm, 51, rfl⟩
abbrev main_v33 : Ref sig .tc := ⟨.hbm, 52, rfl⟩
abbrev main_v34 : Ref sig .tc := ⟨.hbm, 53, rfl⟩
abbrev main_cst_17 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_18 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_19 : Ref sig .tc := ⟨.hbm, 62, rfl⟩
abbrev main_v41 : Ref sig .tc := ⟨.hbm, 63, rfl⟩
abbrev main_cst_20 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_21 : Ref sig .tc := ⟨.hbm, 71, rfl⟩
abbrev main_cst_22 : Ref sig .tc := ⟨.hbm, 72, rfl⟩
abbrev main_v48 : Ref sig .tc := ⟨.hbm, 73, rfl⟩
abbrev main_cst_23 : Ref sig .tc := ⟨.hbm, 74, rfl⟩
abbrev main_v49 : Ref sig .tc := ⟨.hbm, 75, rfl⟩
abbrev main_v50 : Ref sig .tc := ⟨.hbm, 76, rfl⟩
abbrev main_cst_24 : Ref sig .tc := ⟨.hbm, 77, rfl⟩
abbrev main_v51 : Ref sig .tc := ⟨.hbm, 78, rfl⟩
abbrev main_v52 : Ref sig .tc := ⟨.hbm, 79, rfl⟩
abbrev main_cst_25 : Ref sig .tc := ⟨.hbm, 80, rfl⟩
abbrev main_v53 : Ref sig .tc := ⟨.hbm, 81, rfl⟩
abbrev main_cst_26 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_27 : Ref sig .tc := ⟨.hbm, 86, rfl⟩
abbrev main_v57 : Ref sig .tc := ⟨.hbm, 87, rfl⟩
abbrev main_v58 : Ref sig .tc := ⟨.hbm, 88, rfl⟩
abbrev main_cst_28 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_29 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_30 : Ref sig .tc := ⟨.hbm, 97, rfl⟩
abbrev main_v65 : Ref sig .tc := ⟨.hbm, 98, rfl⟩
abbrev main_cst_31 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_32 : Ref sig .tc := ⟨.hbm, 106, rfl⟩
abbrev main_cst_33 : Ref sig .tc := ⟨.hbm, 107, rfl⟩
abbrev main_v72 : Ref sig .tc := ⟨.hbm, 108, rfl⟩
abbrev main_cst_34 : Ref sig .tc := ⟨.hbm, 109, rfl⟩
abbrev main_v73 : Ref sig .tc := ⟨.hbm, 110, rfl⟩
abbrev main_v74 : Ref sig .tc := ⟨.hbm, 111, rfl⟩
abbrev main_cst_35 : Ref sig .tc := ⟨.hbm, 112, rfl⟩
abbrev main_v75 : Ref sig .tc := ⟨.hbm, 113, rfl⟩
abbrev main_v76 : Ref sig .tc := ⟨.hbm, 114, rfl⟩
abbrev main_cst_36 : Ref sig .tc := ⟨.hbm, 115, rfl⟩
abbrev main_v77 : Ref sig .tc := ⟨.hbm, 116, rfl⟩
abbrev main_cst_37 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_38 : Ref sig .tc := ⟨.hbm, 121, rfl⟩
abbrev main_v81 : Ref sig .tc := ⟨.hbm, 122, rfl⟩
abbrev main_v82 : Ref sig .tc := ⟨.hbm, 123, rfl⟩
abbrev main_cst_39 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_40 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_41 : Ref sig .tc := ⟨.hbm, 132, rfl⟩
abbrev main_v89 : Ref sig .tc := ⟨.hbm, 133, rfl⟩
abbrev main_cst_42 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_43 : Ref sig .tc := ⟨.hbm, 141, rfl⟩
abbrev main_cst_44 : Ref sig .tc := ⟨.hbm, 142, rfl⟩
abbrev main_v96 : Ref sig .tc := ⟨.hbm, 143, rfl⟩
abbrev main_cst_45 : Ref sig .tc := ⟨.hbm, 144, rfl⟩
abbrev main_v97 : Ref sig .tc := ⟨.hbm, 145, rfl⟩
abbrev main_v98 : Ref sig .tc := ⟨.hbm, 146, rfl⟩
abbrev main_cst_46 : Ref sig .tc := ⟨.hbm, 147, rfl⟩
abbrev main_v99 : Ref sig .tc := ⟨.hbm, 148, rfl⟩
abbrev main_v100 : Ref sig .tc := ⟨.hbm, 149, rfl⟩
abbrev main_cst_47 : Ref sig .tc := ⟨.hbm, 150, rfl⟩
abbrev main_v101 : Ref sig .tc := ⟨.hbm, 151, rfl⟩
abbrev main_cst_48 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_cst_49 : Ref sig .tc := ⟨.hbm, 156, rfl⟩
abbrev main_v105 : Ref sig .tc := ⟨.hbm, 157, rfl⟩
abbrev main_v106 : Ref sig .tc := ⟨.hbm, 158, rfl⟩
abbrev main_cst_50 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_cst_51 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_cst_52 : Ref sig .tc := ⟨.hbm, 167, rfl⟩
abbrev main_v113 : Ref sig .tc := ⟨.hbm, 168, rfl⟩
abbrev main_cst_53 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_cst_54 : Ref sig .tc := ⟨.hbm, 176, rfl⟩
abbrev main_cst_55 : Ref sig .tc := ⟨.hbm, 177, rfl⟩
abbrev main_v120 : Ref sig .tc := ⟨.hbm, 178, rfl⟩
abbrev main_cst_56 : Ref sig .tc := ⟨.hbm, 179, rfl⟩
abbrev main_v121 : Ref sig .tc := ⟨.hbm, 180, rfl⟩
abbrev main_v122 : Ref sig .tc := ⟨.hbm, 181, rfl⟩
abbrev main_cst_57 : Ref sig .tc := ⟨.hbm, 182, rfl⟩
abbrev main_v123 : Ref sig .tc := ⟨.hbm, 183, rfl⟩
abbrev main_v124 : Ref sig .tc := ⟨.hbm, 184, rfl⟩
abbrev main_cst_58 : Ref sig .tc := ⟨.hbm, 185, rfl⟩
abbrev main_v125 : Ref sig .tc := ⟨.hbm, 186, rfl⟩
abbrev main_cst_59 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_cst_60 : Ref sig .tc := ⟨.hbm, 191, rfl⟩
abbrev main_v129 : Ref sig .tc := ⟨.hbm, 192, rfl⟩
abbrev main_v130 : Ref sig .tc := ⟨.hbm, 193, rfl⟩
abbrev main_cst_61 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_cst_62 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_cst_63 : Ref sig .tc := ⟨.hbm, 202, rfl⟩
abbrev main_v137 : Ref sig .tc := ⟨.hbm, 203, rfl⟩
abbrev main_cst_64 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_cst_65 : Ref sig .tc := ⟨.hbm, 211, rfl⟩
abbrev main_cst_66 : Ref sig .tc := ⟨.hbm, 212, rfl⟩
abbrev main_v144 : Ref sig .tc := ⟨.hbm, 213, rfl⟩
abbrev main_cst_67 : Ref sig .tc := ⟨.hbm, 214, rfl⟩
abbrev main_v145 : Ref sig .tc := ⟨.hbm, 215, rfl⟩
abbrev main_v146 : Ref sig .tc := ⟨.hbm, 216, rfl⟩
abbrev main_cst_68 : Ref sig .tc := ⟨.hbm, 217, rfl⟩
abbrev main_v147 : Ref sig .tc := ⟨.hbm, 218, rfl⟩
abbrev main_v148 : Ref sig .tc := ⟨.hbm, 219, rfl⟩
abbrev main_cst_69 : Ref sig .tc := ⟨.hbm, 220, rfl⟩
abbrev main_v149 : Ref sig .tc := ⟨.hbm, 221, rfl⟩
abbrev main_cst_70 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_cst_71 : Ref sig .tc := ⟨.hbm, 226, rfl⟩
abbrev main_v153 : Ref sig .tc := ⟨.hbm, 227, rfl⟩
abbrev main_v154 : Ref sig .tc := ⟨.hbm, 228, rfl⟩
abbrev main_cst_72 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_cst_73 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_cst_74 : Ref sig .tc := ⟨.hbm, 237, rfl⟩
abbrev main_v161 : Ref sig .tc := ⟨.hbm, 238, rfl⟩
abbrev main_cst_75 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_cst_76 : Ref sig .tc := ⟨.hbm, 246, rfl⟩
abbrev main_cst_77 : Ref sig .tc := ⟨.hbm, 247, rfl⟩
abbrev main_v168 : Ref sig .tc := ⟨.hbm, 248, rfl⟩
abbrev main_cst_78 : Ref sig .tc := ⟨.hbm, 249, rfl⟩
abbrev main_v169 : Ref sig .tc := ⟨.hbm, 250, rfl⟩
abbrev main_v170 : Ref sig .tc := ⟨.hbm, 251, rfl⟩
abbrev main_cst_79 : Ref sig .tc := ⟨.hbm, 252, rfl⟩
abbrev main_v171 : Ref sig .tc := ⟨.hbm, 253, rfl⟩
abbrev main_v172 : Ref sig .tc := ⟨.hbm, 254, rfl⟩
abbrev main_cst_80 : Ref sig .tc := ⟨.hbm, 255, rfl⟩
abbrev main_v173 : Ref sig .tc := ⟨.hbm, 256, rfl⟩
abbrev main_cst_81 : Ref sig .tc := ⟨.hbm, 257, rfl⟩
abbrev main_v174 : Ref sig .tc := ⟨.hbm, 258, rfl⟩
abbrev main_v175 : Ref sig .tc := ⟨.hbm, 259, rfl⟩
abbrev main_v176 : Ref sig .tc := ⟨.hbm, 260, rfl⟩
abbrev main_cst_82 : Ref sig .tc := ⟨.hbm, 261, rfl⟩
abbrev main_v177 : Ref sig .tc := ⟨.hbm, 262, rfl⟩
abbrev main_v178 : Ref sig .tc := ⟨.hbm, 263, rfl⟩
abbrev main_cst_83 : Ref sig .tc := ⟨.hbm, 264, rfl⟩
abbrev main_v179 : Ref sig .tc := ⟨.hbm, 265, rfl⟩
abbrev main_v180 : Ref sig .tc := ⟨.hbm, 266, rfl⟩
abbrev main_v181 : Ref sig .tc := ⟨.hbm, 267, rfl⟩
abbrev main_cst_84 : Ref sig .tc := ⟨.hbm, 268, rfl⟩
abbrev main_v182 : Ref sig .tc := ⟨.hbm, 269, rfl⟩
abbrev main_v183 : Ref sig .tc := ⟨.hbm, 270, rfl⟩
abbrev main_v184 : Ref sig .tc := ⟨.hbm, 271, rfl⟩
abbrev main_cst_85 : Ref sig .tc := ⟨.hbm, 272, rfl⟩
abbrev main_v185 : Ref sig .tc := ⟨.hbm, 273, rfl⟩
abbrev main_cst_86 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩
abbrev main_v191 : Ref sig .tc := ⟨.hbm, 280, rfl⟩
abbrev main_cst_87 : Ref sig .tc := ⟨.hbm, 281, rfl⟩
abbrev main_cst_88 : Ref sig .tc := ⟨.hbm, 282, rfl⟩
abbrev main_v192 : Ref sig .tc := ⟨.hbm, 283, rfl⟩
abbrev main_cst_89 : Ref sig .tc := ⟨.hbm, 284, rfl⟩
abbrev main_v193 : Ref sig .tc := ⟨.hbm, 285, rfl⟩
abbrev main_v194 : Ref sig .tc := ⟨.hbm, 286, rfl⟩
abbrev main_cst_90 : Ref sig .tc := ⟨.hbm, 287, rfl⟩
abbrev main_v195 : Ref sig .tc := ⟨.hbm, 288, rfl⟩
abbrev main_v196 : Ref sig .tc := ⟨.hbm, 289, rfl⟩
abbrev main_cst_91 : Ref sig .tc := ⟨.hbm, 290, rfl⟩
abbrev main_v197 : Ref sig .tc := ⟨.hbm, 291, rfl⟩
abbrev main_cst_92 : Ref sig .tc := ⟨.hbm, 292, rfl⟩
abbrev main_v198 : Ref sig .tc := ⟨.hbm, 293, rfl⟩
abbrev main_v199 : Ref sig .tc := ⟨.hbm, 294, rfl⟩
abbrev main_v200 : Ref sig .tc := ⟨.hbm, 295, rfl⟩
abbrev main_cst_93 : Ref sig .tc := ⟨.hbm, 296, rfl⟩
abbrev main_v201 : Ref sig .tc := ⟨.hbm, 297, rfl⟩
abbrev main_v202 : Ref sig .tc := ⟨.hbm, 298, rfl⟩
abbrev main_cst_94 : Ref sig .tc := ⟨.hbm, 299, rfl⟩
abbrev main_v203 : Ref sig .tc := ⟨.hbm, 300, rfl⟩
abbrev main_v204 : Ref sig .tc := ⟨.hbm, 301, rfl⟩
abbrev main_v205 : Ref sig .tc := ⟨.hbm, 302, rfl⟩
abbrev main_cst_95 : Ref sig .tc := ⟨.hbm, 303, rfl⟩
abbrev main_v206 : Ref sig .tc := ⟨.hbm, 304, rfl⟩
abbrev main_v207 : Ref sig .tc := ⟨.hbm, 305, rfl⟩
abbrev main_v208 : Ref sig .tc := ⟨.hbm, 306, rfl⟩
abbrev main_cst_96 : Ref sig .tc := ⟨.hbm, 307, rfl⟩
abbrev main_v209 : Ref sig .tc := ⟨.hbm, 308, rfl⟩
abbrev main_cst_97 : Ref sig .tc := ⟨.hbm, 309, rfl⟩
abbrev main_v210 : Ref sig .tc := ⟨.hbm, 310, rfl⟩
abbrev main_v211 : Ref sig .tc := ⟨.hbm, 311, rfl⟩
abbrev main_v212 : Ref sig .tc := ⟨.hbm, 312, rfl⟩
abbrev main_v213 : Ref sig .tc := ⟨.hbm, 313, rfl⟩
abbrev main_v214 : Ref sig .tc := ⟨.hbm, 314, rfl⟩
abbrev main_v215 : Ref sig .tc := ⟨.hbm, 315, rfl⟩
abbrev main_cst_98 : Ref sig .tc := ⟨.hbm, 316, rfl⟩
abbrev main_cst_99 : Ref sig .tc := ⟨.hbm, 317, rfl⟩
abbrev main_v216 : Ref sig .tc := ⟨.hbm, 318, rfl⟩
abbrev main_cst_100 : Ref sig .tc := ⟨.hbm, 319, rfl⟩
abbrev main_v217 : Ref sig .tc := ⟨.hbm, 320, rfl⟩
abbrev main_v218 : Ref sig .tc := ⟨.hbm, 321, rfl⟩
abbrev main_cst_101 : Ref sig .tc := ⟨.hbm, 322, rfl⟩
abbrev main_v219 : Ref sig .tc := ⟨.hbm, 323, rfl⟩
abbrev main_v220 : Ref sig .tc := ⟨.hbm, 324, rfl⟩
abbrev main_cst_102 : Ref sig .tc := ⟨.hbm, 325, rfl⟩
abbrev main_v221 : Ref sig .tc := ⟨.hbm, 326, rfl⟩
abbrev main_cst_103 : Ref sig .tc := ⟨.hbm, 327, rfl⟩
abbrev main_v222 : Ref sig .tc := ⟨.hbm, 328, rfl⟩
abbrev main_v223 : Ref sig .tc := ⟨.hbm, 329, rfl⟩
abbrev main_v224 : Ref sig .tc := ⟨.hbm, 330, rfl⟩
abbrev main_cst_104 : Ref sig .tc := ⟨.hbm, 331, rfl⟩
abbrev main_v225 : Ref sig .tc := ⟨.hbm, 332, rfl⟩
abbrev main_v226 : Ref sig .tc := ⟨.hbm, 333, rfl⟩
abbrev main_cst_105 : Ref sig .tc := ⟨.hbm, 334, rfl⟩
abbrev main_v227 : Ref sig .tc := ⟨.hbm, 335, rfl⟩
abbrev main_v228 : Ref sig .tc := ⟨.hbm, 336, rfl⟩
abbrev main_v229 : Ref sig .tc := ⟨.hbm, 337, rfl⟩
abbrev main_cst_106 : Ref sig .tc := ⟨.hbm, 338, rfl⟩
abbrev main_v230 : Ref sig .tc := ⟨.hbm, 339, rfl⟩
abbrev main_v231 : Ref sig .tc := ⟨.hbm, 340, rfl⟩
abbrev main_v232 : Ref sig .tc := ⟨.hbm, 341, rfl⟩
abbrev main_cst_107 : Ref sig .tc := ⟨.hbm, 342, rfl⟩
abbrev main_v233 : Ref sig .tc := ⟨.hbm, 343, rfl⟩
abbrev main_cst_108 : Ref sig .tc := ⟨.hbm, 344, rfl⟩
abbrev main_v234 : Ref sig .tc := ⟨.hbm, 345, rfl⟩
abbrev main_v235 : Ref sig .tc := ⟨.hbm, 346, rfl⟩
abbrev main_v236 : Ref sig .tc := ⟨.hbm, 347, rfl⟩
abbrev main_v237 : Ref sig .tc := ⟨.hbm, 348, rfl⟩
abbrev main_v238 : Ref sig .tc := ⟨.hbm, 349, rfl⟩
abbrev main_v239 : Ref sig .tc := ⟨.hbm, 350, rfl⟩
abbrev main_cst_109 : Ref sig .tc := ⟨.hbm, 351, rfl⟩
abbrev main_cst_110 : Ref sig .tc := ⟨.hbm, 352, rfl⟩
abbrev main_v240 : Ref sig .tc := ⟨.hbm, 353, rfl⟩
abbrev main_cst_111 : Ref sig .tc := ⟨.hbm, 354, rfl⟩
abbrev main_v241 : Ref sig .tc := ⟨.hbm, 355, rfl⟩
abbrev main_v242 : Ref sig .tc := ⟨.hbm, 356, rfl⟩
abbrev main_cst_112 : Ref sig .tc := ⟨.hbm, 357, rfl⟩
abbrev main_v243 : Ref sig .tc := ⟨.hbm, 358, rfl⟩
abbrev main_v244 : Ref sig .tc := ⟨.hbm, 359, rfl⟩
abbrev main_cst_113 : Ref sig .tc := ⟨.hbm, 360, rfl⟩
abbrev main_v245 : Ref sig .tc := ⟨.hbm, 361, rfl⟩
abbrev main_cst_114 : Ref sig .tc := ⟨.hbm, 362, rfl⟩
abbrev main_v246 : Ref sig .tc := ⟨.hbm, 363, rfl⟩
abbrev main_v247 : Ref sig .tc := ⟨.hbm, 364, rfl⟩
abbrev main_v248 : Ref sig .tc := ⟨.hbm, 365, rfl⟩
abbrev main_cst_115 : Ref sig .tc := ⟨.hbm, 366, rfl⟩
abbrev main_v249 : Ref sig .tc := ⟨.hbm, 367, rfl⟩
abbrev main_v250 : Ref sig .tc := ⟨.hbm, 368, rfl⟩
abbrev main_cst_116 : Ref sig .tc := ⟨.hbm, 369, rfl⟩
abbrev main_v251 : Ref sig .tc := ⟨.hbm, 370, rfl⟩
abbrev main_v252 : Ref sig .tc := ⟨.hbm, 371, rfl⟩
abbrev main_v253 : Ref sig .tc := ⟨.hbm, 372, rfl⟩
abbrev main_cst_117 : Ref sig .tc := ⟨.hbm, 373, rfl⟩
abbrev main_v254 : Ref sig .tc := ⟨.hbm, 374, rfl⟩
abbrev main_v255 : Ref sig .tc := ⟨.hbm, 375, rfl⟩
abbrev main_v256 : Ref sig .tc := ⟨.hbm, 376, rfl⟩
abbrev main_cst_118 : Ref sig .tc := ⟨.hbm, 377, rfl⟩
abbrev main_v257 : Ref sig .tc := ⟨.hbm, 378, rfl⟩
abbrev main_cst_119 : Ref sig .tc := ⟨.hbm, 379, rfl⟩
abbrev main_v258 : Ref sig .tc := ⟨.hbm, 380, rfl⟩
abbrev main_v259 : Ref sig .tc := ⟨.hbm, 381, rfl⟩
abbrev main_v260 : Ref sig .tc := ⟨.hbm, 382, rfl⟩
abbrev main_v261 : Ref sig .tc := ⟨.hbm, 383, rfl⟩
abbrev main_v262 : Ref sig .tc := ⟨.hbm, 384, rfl⟩
abbrev main_v263 : Ref sig .tc := ⟨.hbm, 385, rfl⟩
abbrev main_v264 : Ref sig .tc := ⟨.hbm, 386, rfl⟩
abbrev main_v265 : Ref sig .tc := ⟨.hbm, 387, rfl⟩
abbrev main_v266 : Ref sig .tc := ⟨.hbm, 388, rfl⟩
abbrev main_v267 : Ref sig .tc := ⟨.hbm, 389, rfl⟩
abbrev main_v268 : Ref sig .tc := ⟨.hbm, 390, rfl⟩
abbrev main_v269 : Ref sig .tc := ⟨.hbm, 391, rfl⟩
abbrev main_v270 : Ref sig .tc := ⟨.hbm, 392, rfl⟩
abbrev main_v271 : Ref sig .tc := ⟨.hbm, 393, rfl⟩
abbrev main_v272 : Ref sig .tc := ⟨.hbm, 394, rfl⟩
abbrev main_v273 : Ref sig .tc := ⟨.hbm, 395, rfl⟩
abbrev main_v274 : Ref sig .tc := ⟨.hbm, 396, rfl⟩
abbrev main_v275 : Ref sig .tc := ⟨.hbm, 397, rfl⟩
abbrev main_cst_120 : Ref sig .tc := ⟨.hbm, 398, rfl⟩
abbrev main_v276 : Ref sig .tc := ⟨.hbm, 399, rfl⟩
abbrev main_v277 : Ref sig .tc := ⟨.hbm, 400, rfl⟩
abbrev main_cst_121 : Ref sig .tc := ⟨.hbm, 401, rfl⟩
abbrev main_v278 : Ref sig .tc := ⟨.hbm, 402, rfl⟩
abbrev main_v279 : Ref sig .tc := ⟨.hbm, 403, rfl⟩
abbrev main_v280 : Ref sig .tc := ⟨.hbm, 404, rfl⟩
abbrev main_v281 : Ref sig .tc := ⟨.hbm, 405, rfl⟩
abbrev main_v282 : Ref sig .tc := ⟨.hbm, 406, rfl⟩

abbrev nD : Nat := 1
abbrev τ : Topo := Topo.v7x

variable {F : FTy → Type} [FloatOps F]
-- ==== Proof.Bump.lean ====
/-
  The mathematics of one membership function, over the extended reals: no program is named here.
-/
module

public import Idealize.ShloMosaic.PureOps.Ideal
public import Mathlib.Tactic.FieldSimp
public import Mathlib.Tactic.Positivity

@[expose] public section

noncomputable section

namespace Cert.Histogram

open Idealize.ShloMosaic

/-- The Gaussian bump of centre `μ` and width `s`, 1 at its centre: `exp (h / s² · (x − μ)²)`, where `h` stands for −1/2. -/
def bump (h μ s x : EReal) : EReal :=
  Ideal.exp (Ideal.div h (s * s) * ((x - μ) * (x - μ)))

/-- The coefficient `h / s²` is the real number of that name. -/
theorem coef_eq {h s : ℝ} (hs : 0 < s) :
    Ideal.div (h : EReal) ((s : EReal) * s) = ((h / (s * s) : ℝ) : EReal) := by
  rw [← EReal.coe_mul, Ideal.div_coe (by positivity), ← EReal.coe_mul]
  congr 1
  ring

/-- At an infinite argument the bump vanishes, since its coefficient is negative. -/
theorem exp_far {c : ℝ} (hc : c < 0) : Ideal.exp ((c : EReal) * ⊤) = 0 := by
  rw [EReal.coe_mul_top_of_neg hc, Ideal.exp_bot]

theorem bump_coe {h μ s : ℝ} (hs : 0 < s) (x : ℝ) :
    bump h μ s x = ((Real.exp (h / (s * s) * ((x - μ) * (x - μ))) : ℝ) : EReal) := by
  unfold bump
  rw [coef_eq hs]
  norm_cast

theorem coef_neg {h s : ℝ} (hh : h < 0) (hs : 0 < s) : h / (s * s) < 0 :=
  div_neg_of_neg_of_pos hh (by positivity)

theorem bump_top {h μ s : ℝ} (hh : h < 0) (hs : 0 < s) : bump h μ s ⊤ = 0 := by
  unfold bump
  rw [coef_eq hs, EReal.top_sub_coe, EReal.top_mul_top, exp_far (coef_neg hh hs)]

theorem bump_bot {h μ s : ℝ} (hh : h < 0) (hs : 0 < s) : bump h μ s ⊥ = 0 := by
  unfold bump
  rw [coef_eq hs, EReal.bot_sub, EReal.bot_mul_bot, exp_far (coef_neg hh hs)]

/-- The bump's value is a real number, not below zero. -/
theorem bump_real {h μ s : ℝ} (hh : h < 0) (hs : 0 < s) (x : EReal) :
    ∃ r : ℝ, 0 ≤ r ∧ bump h μ s x = (r : EReal) := by
  induction x using EReal.rec with
  | bot => exact ⟨0, le_rfl, bump_bot hh hs⟩
  | top => exact ⟨0, le_rfl, bump_top hh hs⟩
  | coe x => exact ⟨_, (Real.exp_pos _).le, bump_coe hs x⟩

/-- An argument given as a leading part and the rest, which at the extended reals are `x` and `x − x`, leaves the bump
    as it is: at a real the rest is zero, and at an infinity both sides vanish. -/
theorem bump_split {h μ s : ℝ} (hh : h < 0) (hs : 0 < s) (x : EReal) :
    bump h μ s (x + (x - x)) = bump h μ s x := by
  induction x using EReal.rec with
  | bot => rw [EReal.bot_add]
  | top =>
    rw [show (⊤ : EReal) + (⊤ - ⊤) = ⊥ by rw [sub_eq_add_neg, EReal.neg_top, EReal.add_bot, EReal.add_bot],
      bump_bot hh hs, bump_top hh hs]
  | coe x => rw [← EReal.coe_sub, sub_self, EReal.coe_zero, add_zero]

/-- THE NORMALISED DENSITY IS THE BUMP: the Gaussian density at `x` (`exp (h ((x − μ)/s)²) / (s k)`, where `k` stands for
    √(2π)) over the density at the centre is the bump. -/
theorem density_ratio {h μ s k : ℝ} (hh : h < 0) (hs : 0 < s) (hk : 0 < k) (x : EReal) :
    Ideal.div (Ideal.div (Ideal.exp (h * (Ideal.div (x - μ) s * Ideal.div (x - μ) s))) ((s : EReal) * k))
        (Ideal.div (Ideal.exp (h * (Ideal.div ((μ : EReal) - μ) s * Ideal.div ((μ : EReal) - μ) s))) ((s : EReal) * k))
      = bump h μ s x := by
  have hden : Ideal.div (Ideal.exp (h * (Ideal.div ((μ : EReal) - μ) s * Ideal.div ((μ : EReal) - μ) s))) ((s : EReal) * k)
      = ((1 / (s * k) : ℝ) : EReal) := by
    rw [← EReal.coe_sub, Ideal.div_coe hs.ne', ← EReal.coe_mul, ← EReal.coe_mul, ← EReal.coe_mul, Ideal.exp_coe,
      ← EReal.coe_mul, Ideal.div_coe (by positivity), ← EReal.coe_mul]
    simp
  rw [hden, ← EReal.coe_mul, Ideal.div_coe (by positivity), Ideal.div_coe (by positivity), mul_assoc, ← EReal.coe_mul,
    show 1 / (s * k) * (1 / (1 / (s * k))) = (1 : ℝ) by field_simp, EReal.coe_one, mul_one]
  have hinv : (0 : ℝ) < 1 / s := by positivity
  induction x using EReal.rec with
  | bot =>
    rw [bump_bot hh hs, EReal.bot_sub, Ideal.div_coe hs.ne', EReal.bot_mul_coe_of_pos hinv, EReal.bot_mul_bot, exp_far hh]
  | top =>
    rw [bump_top hh hs, EReal.top_sub_coe, Ideal.div_coe hs.ne', EReal.top_mul_coe_of_pos hinv, EReal.top_mul_top, exp_far hh]
  | coe x =>
    rw [bump_coe hs, Ideal.div_coe hs.ne', ← EReal.coe_sub, ← EReal.coe_mul, ← EReal.coe_mul, ← EReal.coe_mul, Ideal.exp_coe]
    congr 2
    field_simp

/-- A finite sum of extended reals that are reals not below zero is one. -/
theorem sum_real {n : ℕ} (f : Fin n → EReal) (hf : ∀ i, ∃ r : ℝ, 0 ≤ r ∧ f i = (r : EReal)) :
    ∃ r : ℝ, 0 ≤ r ∧ ∑ i, f i = (r : EReal) := by
  induction n with
  | zero => exact ⟨0, le_rfl, by simp⟩
  | succ n ih =>
    obtain ⟨a, ha, hfa⟩ := hf 0
    obtain ⟨b, hb, hfb⟩ := ih (fun i => f i.succ) fun i => hf i.succ
    exact ⟨a + b, add_nonneg ha hb, by rw [Fin.sum_univ_succ, hfa, hfb, EReal.coe_add]⟩

/-- To multiply by the reciprocal of a positive real is to divide by it. -/
theorem mul_recip {t : EReal} (ht : ∃ r : ℝ, 0 < r ∧ t = (r : EReal)) (p : EReal) :
    p * Ideal.div 1 t = Ideal.div p t := by
  obtain ⟨r, hr, rfl⟩ := ht
  rw [Ideal.div_coe hr.ne', Ideal.div_coe hr.ne', one_mul]

/-- Among the 1408 output columns, feature `f` owns the eleven columns `11 f … 11 f + 10`: a sum over the columns of
    feature `f` is a sum over its eleven memberships. -/
theorem sum_columns {M : Type*} [AddCommMonoid M] (f : Fin 128) (g : Fin 1408 → M) :
    (∑ o : Fin 1408, if o.val / 11 = f.val then g o else 0)
      = ∑ k : Fin 11, g ⟨11 * f.val + k.val, by have := f.isLt; have := k.isLt; omega⟩ := by
  rw [← Finset.sum_filter]
  symm
  refine Finset.sum_bij (fun k _ => ⟨11 * f.val + k.val, by have := f.isLt; have := k.isLt; omega⟩) ?_ ?_ ?_ ?_
  · intro k _
    simp only [Finset.mem_filter, Finset.mem_univ, true_and]
    have := k.isLt; omega
  · intro a _ b _ h
    have := congrArg Fin.val h
    exact Fin.ext (by simpa using this)
  · intro o ho
    simp only [Finset.mem_filter, Finset.mem_univ, true_and] at ho
    exact ⟨⟨o.val % 11, Nat.mod_lt _ (by norm_num)⟩, Finset.mem_univ _, Fin.ext (by simp only []; omega)⟩
  · intro k _
    rfl

end Cert.Histogram

end
-- ==== Proof.Tables.lean ====
/-
  The words the two programs hold: the eleven centres and widths, −1/2, 2π, and the small number added to the sum. Each
  is read as the real number it denotes, of which only the sign matters here; and the kernel's long tables are read by column.
-/
module

public import proofs.«01_k».proof.Proof.Bump
public import proofs.«01_k».proof.KernelIdeal
public import Idealize.ShloMosaic.Lib.Pointwise

@[expose] public section

noncomputable section

namespace Cert.Histogram

open Idealize.ShloMosaic

/-- The centres of the eleven memberships, as f32 words. -/
def muW : Fin 11 → BitVec 32 :=
  ![0xBFD28F5C#32, 0xBF8A3D71#32, 0xBF3D2F1B#32, 0xBEEF9DB2#32, 0xBE6978D5#32, 0x00000000#32, 0x3E6978D5#32, 0x3EEF9DB2#32,
    0x3F3D2F1B#32, 0x3F8A3D71#32, 0x3FD28F5C#32]

/-- Their widths. -/
def sgW : Fin 11 → BitVec 32 :=
  ![0x3E90E560#32, 0x3E2E147B#32, 0x3E09374C#32, 0x3DF1A9FC#32, 0x3DE978D5#32, 0x3DE978D5#32, 0x3DE978D5#32, 0x3DF1A9FC#32,
    0x3E09374C#32, 0x3E2E147B#32, 0x3E90E560#32]

/-! ### What a word denotes -/

/-- A word whose exponent is not all ones denotes a real number. -/
theorem finite_word (b : BitVec 32) (h : (b.extractLsb' 23 8).toNat ≠ 255) : ∃ r : ℝ, Ideal.ofBits .f32 b = (r : EReal) := by
  simp only [Ideal.ofBits, Ideal.ieee]
  rw [if_neg (by simpa using h)]
  split <;> exact ⟨_, rfl⟩

/-- A normal word with no sign denotes a positive real number. -/
theorem positive_word (b : BitVec 32) (h : (b.extractLsb' 23 8).toNat ≠ 255) (h0 : (b.extractLsb' 23 8).toNat ≠ 0)
    (hs : b.extractLsb' 31 1 ≠ 1#1) : ∃ r : ℝ, 0 < r ∧ Ideal.ofBits .f32 b = (r : EReal) := by
  simp only [Ideal.ofBits, Ideal.ieee]
  rw [if_neg (by simpa using h), if_neg h0]
  refine ⟨_, ?_, rfl⟩
  have : (b.extractLsb' (8 + 23) 1 == 1#1) = false := by simpa using hs
  rw [this, if_neg (by decide), one_mul]
  positivity

/-- The numbers, as reals: a centre, a width, −1/2, 2π, and the small number added to the sum. -/
theorem centre_real (k : Fin 11) : ∃ r : ℝ, Ideal.ofBits .f32 (muW k) = (r : EReal) :=
  finite_word _ ((by decide +kernel : ∀ k : Fin 11, ((muW k).extractLsb' 23 8).toNat ≠ 255) k)

theorem width_pos (k : Fin 11) : ∃ r : ℝ, 0 < r ∧ Ideal.ofBits .f32 (sgW k) = (r : EReal) :=
  positive_word _ ((by decide +kernel : ∀ k : Fin 11, ((sgW k).extractLsb' 23 8).toNat ≠ 255) k)
    ((by decide +kernel : ∀ k : Fin 11, ((sgW k).extractLsb' 23 8).toNat ≠ 0) k)
    ((by decide +kernel : ∀ k : Fin 11, (sgW k).extractLsb' 31 1 ≠ 1#1) k)

theorem half_neg : ∃ r : ℝ, r < 0 ∧ Ideal.ofBits .f32 0xBF000000#32 = (r : EReal) :=
  ⟨-(1 / 2), by norm_num, by simp [Ideal.ofBits, Ideal.ieee, -EReal.coe_mul]; norm_num⟩

theorem root_pos : ∃ r : ℝ, 0 < r ∧ Ideal.sqrt (Ideal.ofBits .f32 0x40C90FDB#32) = (r : EReal) := by
  obtain ⟨r, hr, h⟩ := positive_word 0x40C90FDB#32 (by decide) (by decide) (by decide)
  exact ⟨Real.sqrt r, Real.sqrt_pos.mpr hr, by rw [h, Ideal.sqrt_coe, if_neg hr.le.not_gt]⟩

theorem eps_pos : ∃ r : ℝ, 0 < r ∧ Ideal.ofBits .f32 0x3089705F#32 = (r : EReal) :=
  positive_word 0x3089705F#32 (by decide) (by decide) (by decide)

/-! ### The memberships of this histogram -/

/-- The small number the sum of the memberships is raised by. -/
abbrev eps : EReal := Ideal.ofBits .f32 0x3089705F#32

/-- Membership `k` of the value `x`: 1 at its centre, real and not below zero everywhere. -/
def member (k : Fin 11) (x : EReal) : EReal :=
  bump (Ideal.ofBits .f32 0xBF000000#32) (Ideal.ofBits .f32 (muW k)) (Ideal.ofBits .f32 (sgW k)) x

/-- The share of membership `k` among the eleven. -/
def share (k : Fin 11) (x : EReal) : EReal := Ideal.div (member k x) ((∑ k', member k' x) + eps)

theorem member_real (k : Fin 11) (x : EReal) : ∃ r : ℝ, 0 ≤ r ∧ member k x = (r : EReal) := by
  obtain ⟨μ, hμ⟩ := centre_real k
  obtain ⟨s, hs, hs'⟩ := width_pos k
  obtain ⟨h, hh, hh'⟩ := half_neg
  unfold member
  rw [hμ, hs', hh']
  exact bump_real hh hs x

/-- The raised sum of the memberships is a positive real. -/
theorem total_pos (x : EReal) : ∃ r : ℝ, 0 < r ∧ (∑ k, member k x) + eps = (r : EReal) := by
  obtain ⟨a, ha, h⟩ := sum_real (fun k => member k x) fun k => member_real k x
  obtain ⟨e, he, h'⟩ := eps_pos
  exact ⟨a + e, by positivity, by rw [h, show eps = (e : EReal) from h', EReal.coe_add]⟩

/-- So the product with the reciprocal of the raised sum is the share. -/
theorem mul_recip_total (k : Fin 11) (x : EReal) :
    member k x * Ideal.div 1 ((∑ k', member k' x) + eps) = share k x :=
  mul_recip (total_pos x) _

/-- A membership of a value given as a leading part and the rest. -/
theorem member_split (k : Fin 11) (x : EReal) : member k (x + (x - x)) = member k x := by
  obtain ⟨μ, hμ⟩ := centre_real k
  obtain ⟨s, hs, hs'⟩ := width_pos k
  obtain ⟨h, hh, hh'⟩ := half_neg
  unfold member
  rw [hμ, hs', hh']
  exact bump_split hh hs x

/-- A density over the density at its centre is the membership. -/
theorem member_ratio (k : Fin 11) (x : EReal) :
    Ideal.div (Ideal.div (Ideal.exp (Ideal.ofBits .f32 0xBF000000#32
            * (Ideal.div (x - Ideal.ofBits .f32 (muW k)) (Ideal.ofBits .f32 (sgW k))
              * Ideal.div (x - Ideal.ofBits .f32 (muW k)) (Ideal.ofBits .f32 (sgW k)))))
          (Ideal.ofBits .f32 (sgW k) * Ideal.sqrt (Ideal.ofBits .f32 0x40C90FDB#32)))
        (Ideal.div (Ideal.exp (Ideal.ofBits .f32 0xBF000000#32
            * (Ideal.div (Ideal.ofBits .f32 (muW k) - Ideal.ofBits .f32 (muW k)) (Ideal.ofBits .f32 (sgW k))
              * Ideal.div (Ideal.ofBits .f32 (muW k) - Ideal.ofBits .f32 (muW k)) (Ideal.ofBits .f32 (sgW k)))))
          (Ideal.ofBits .f32 (sgW k) * Ideal.sqrt (Ideal.ofBits .f32 0x40C90FDB#32)))
      = member k x := by
  obtain ⟨μ, hμ⟩ := centre_real k
  obtain ⟨s, hs, hs'⟩ := width_pos k
  obtain ⟨h, hh, hh'⟩ := half_neg
  obtain ⟨r, hr, hr'⟩ := root_pos
  unfold member
  rw [hμ, hs', hh', hr']
  exact density_ratio hh hs hr x

/-! ### The kernel's tables, column by column -/

/-- The membership an output column holds. -/
def memb (o : Fin 1408) : Fin 11 := ⟨o.val % 11, Nat.mod_lt _ (by norm_num)⟩

theorem lit0_eq : ∀ o : Fin 1408, Cert.KernelIdeal.lit0 o = BitVec.ofNat 32 (o.val / 11) := by decide +kernel

theorem lit1_eq : ∀ o : Fin 1408, Cert.KernelIdeal.lit1 o = muW (memb o) := by decide +kernel

theorem lit2_eq : ∀ o : Fin 1408, Cert.KernelIdeal.lit2 o = sgW (memb o) := by decide +kernel

end Cert.Histogram

end
-- ==== Proof.Block.lean ====
/-
  What the kernel's body computes from one block of inputs, element by element, over the extended reals.
-/
module

public import proofs.«01_k».proof.Proof.Tables
public import proofs.«01_k».proof.Proof.Gen.KernelIdeal.Value
public import Idealize.ShloMosaic.Lib.Pointwise

@[expose] public section

noncomputable section

namespace Cert.Histogram.Block

open Cert.KernelIdeal Cert.KernelIdeal.Gen Idealize.ShloMosaic

/-- The one-hot table of features (rows) by output columns: column `o` belongs to feature `o / 11`. -/
def hot (f : Fin 128) (o : Fin 1408) : EReal := if o.val / 11 = f.val then 1 else 0

/-- The feature an output column belongs to. -/
def feat (o : Fin 1408) : Fin 128 := ⟨o.val / 11, by have := o.isLt; omega⟩

/-- A row times the one-hot table picks out the column's feature: `y·0 = 0` at every extended real. -/
theorem sum_hot (y : Fin 128 → EReal) (o : Fin 1408) : ∑ f : Fin 128, y f * hot f o = y (feat o) := by
  rw [Finset.sum_eq_single (feat o)]
  · simp [hot, feat]
  · intro f _ hf
    have : ¬ o.val / 11 = f.val := fun h => hf (Fin.ext h.symm)
    simp [hot, this]
  · simp

/-- A row of 1408 columns times the transposed table sums the eleven columns of a feature. -/
theorem sum_hotT (g : Fin 1408 → EReal) (f : Fin 128) :
    ∑ o : Fin 1408, g o * hot f o
      = ∑ k : Fin 11, g ⟨11 * f.val + k.val, by have := f.isLt; have := k.isLt; omega⟩ := by
  rw [← sum_columns]
  exact Finset.sum_congr rfl fun o _ => by unfold hot; split <;> simp

variable (E : Vec Ideal S128x1408 .bf16) (Et : Vec Ideal S1408x128 .bf16) (mu c : Vec Ideal S1x1408 .f32)
  (x : Vec Ideal S256x128 .f32)

/-- The body's unnormalised membership at row `r` and column `o`. -/
def member (r : Fin 256) (o : Fin 1408) : EReal :=
  Ideal.exp (c (ix2 0 o) * ((x (ix2 r (feat o)) + (x (ix2 r (feat o)) - x (ix2 r (feat o))) - mu (ix2 0 o))
    * (x (ix2 r (feat o)) + (x (ix2 r (feat o)) - x (ix2 r (feat o))) - mu (ix2 0 o))))

theorem pay_apply (hE : ∀ f o, E (ix2 f o) = hot f o) (hEt : ∀ o f, Et (ix2 o f) = hot f o) (r : Fin 256) (o : Fin 1408) :
    k0_pay1 (F := Ideal) E Et mu c x (ix2 r o)
      = member mu c x r o * Ideal.div 1 ((∑ k : Fin 11, member mu c x r ⟨11 * (feat o).val + k.val, by have := (feat o).isLt; have := k.isLt; omega⟩)
          + Ideal.ofBits .f32 0x3089705F#32) := by
  pointwise [k0_pay1, hE, hEt, sum_hot, sum_hotT]
  rfl

/-- The body's block, its centres and coefficients being those of the columns' memberships: every element is the share of
    its column's membership at its feature's value. -/
theorem pay_share (hE : ∀ f o, E (ix2 f o) = hot f o) (hEt : ∀ o f, Et (ix2 o f) = hot f o)
    (hmu : ∀ o, mu (ix2 0 o) = Ideal.ofBits .f32 (muW (memb o)))
    (hc : ∀ o, c (ix2 0 o) = Ideal.div (Ideal.ofBits .f32 0xBF000000#32)
      (Ideal.ofBits .f32 (sgW (memb o)) * Ideal.ofBits .f32 (sgW (memb o)))) (r : Fin 256) (o : Fin 1408) :
    k0_pay1 (F := Ideal) E Et mu c x (ix2 r o) = share (memb o) (x (ix2 r (feat o))) := by
  have hm : ∀ o, member mu c x r o = Histogram.member (memb o) (x (ix2 r (feat o))) := fun o => by
    rw [← member_split]
    unfold member Histogram.member bump
    rw [hmu, hc]
  have hk : ∀ k : Fin 11, memb (⟨11 * (feat o).val + k.val, by have := (feat o).isLt; have := k.isLt; omega⟩ : Fin 1408) = k :=
    fun k => Fin.ext (by have := k.isLt; simp only [memb]; omega)
  have hf : ∀ k : Fin 11, feat (⟨11 * (feat o).val + k.val, by have := (feat o).isLt; have := k.isLt; omega⟩ : Fin 1408) = feat o :=
    fun k => Fin.ext (by have := k.isLt; simp only [feat]; omega)
  rw [pay_apply E Et mu c x hE hEt]
  simp only [hm, hk, hf]
  exact mul_recip_total _ _

end Cert.Histogram.Block

end
-- ==== Proof.Prefix.lean ====
/-
  What the kernel's four input arrays hold when the call begins: the rows of x, the one-hot table, its transpose, and the
  rows of centres and of coefficients.
-/
module

public import proofs.«01_k».proof.Proof.Block
public import proofs.«01_k».proof.Proof.Tables

@[expose] public section

noncomputable section

namespace Cert.Histogram.Prefix

open Cert.KernelIdeal Cert.KernelIdeal.Gen Idealize.ShloMosaic Idealize.ShloMosaic.TcCoe Idealize.ShloMosaic.StableHlo

/-- A vector of 1408 entries is laid out in order. -/
theorem row_at (o : Fin 1408) : S1408.rowMajor (ix1 o) = o := Fin.ext (Idealize.ShloMosaic.rowMajor_val1 _)

/-! ### The tables as the host operations before the call compute them -/

/-- The one-hot table: 1 where the column's feature is the row. -/
def hotTable : FVec Ideal S128x1408 .bf16 :=
  truncf .bf16 (select
    (cmpi .eq (broadcastInDim S128x1408 ![0, 1] bcast_S1x1408_S128x1408_0_1
        (broadcastInDim S1x1408 ![1] bcast_S1408_S1x1408_1 fun i => lit0 (S1408.rowMajor i))) (iotaInDim S128x1408 32 0))
    (broadcastInDim S128x1408 ![] bcast_S_S128x1408 (constant S_ .f32 0x3F800000#32))
    (broadcastInDim S128x1408 ![] bcast_S_S128x1408 (constant S_ .f32 0x00000000#32))) bitsLt_bf16_f32

/-- The centres, one per column. -/
def centreRow : FVec Ideal S1408 .f32 := fun i => FloatOps.ofBits .f32 (lit1 (S1408.rowMajor i))

/-- The widths, one per column. -/
def widthRow : FVec Ideal S1408 .f32 := fun i => FloatOps.ofBits .f32 (lit2 (S1408.rowMajor i))

/-- The centres in row 0, the coefficients in row 1, zeros below. -/
def rows : FVec Ideal S8x1408 .f32 :=
  concatenate S8x1408 0
    [⟨S1x1408, (broadcastInDim S1x1408 ![1] bcast_S1408_S1x1408_1 centreRow : FVec Ideal S1x1408 .f32)⟩,
     ⟨S1x1408, (broadcastInDim S1x1408 ![1] bcast_S1408_S1x1408_1
        (Host.divf (broadcastInDim S1408 ![] bcast_S_S1408 (constant S_ .f32 0xBF000000#32)) (mulf widthRow widthRow)) : FVec Ideal S1x1408 .f32)⟩,
     ⟨S6x1408, (broadcastInDim S6x1408 ![] bcast_S_S6x1408 (constant S_ .f32 0x00000000#32) : FVec Ideal S6x1408 .f32)⟩]
    concatenates_S1x1408_S1x1408_S6x1408_S8x1408_d0

theorem hotTable_at (f : Fin 128) (o : Fin 1408) : hotTable (ix2 f o) = Block.hot f o := by
  pointwise [hotTable, row_at]
  rw [lit0_eq]
  have ho := o.isLt
  have hf := f.isLt
  unfold Block.hot
  by_cases h : o.val / 11 = f.val
  · rw [if_pos h, h]
    simp [Scalar.select, IntOp.cmpi]
  · have hne : BitVec.ofNat 32 (o.val / 11) ≠ BitVec.ofNat 32 f.val := fun e => h (by
      have := congrArg BitVec.toNat e
      simp only [BitVec.toNat_ofNat] at this
      omega)
    rw [if_neg h]
    simp only [Scalar.select, IntOp.cmpi, beq_eq_false_iff_ne.mpr hne]
    simp

theorem rows_centre (o : Fin 1408) : rows (ix2 0 o) = Ideal.ofBits .f32 (muW (memb o)) := by
  pointwise [rows, centreRow, row_at]
  rw [lit1_eq]

theorem rows_coef (o : Fin 1408) : rows (ix2 1 o)
    = Ideal.div (Ideal.ofBits .f32 0xBF000000#32) (Ideal.ofBits .f32 (sgW (memb o)) * Ideal.ofBits .f32 (sgW (memb o))) := by
  pointwise [rows, widthRow, row_at]
  rw [lit2_eq]

/-! ### The arrays at the call -/

variable (m : (ℓ : Loc nD τ sig) → Buf (Elt Ideal) ℓ) (c : Dev nD)

theorem x_eq : V m c main_v0 = (shapeCast S32768x128 (m ((c : Thread nD τ).loc main_arg0)) shapeCasts_S16x2048x128_S32768x128 : Vec Ideal S32768x128 .f32) := by
  unfold V
  simp only [hostOps0, hostOps0_1, hostOps0_2, List.flatten_cons, List.flatten_nil, List.append_nil, List.cons_append, List.nil_append]
  after_results
  rfl

theorem hot_eq : V m c main_v6 = hotTable := by
  unfold V
  simp only [hostOps0, hostOps0_1, hostOps0_2, List.flatten_cons, List.flatten_nil, List.append_nil, List.cons_append, List.nil_append]
  after_results
  simp -implicitDefEqProofs only [TRef.toBuf, TRef.ofBuf, cast_cast, cast_eq]
  rfl

theorem hotT_eq : V m c main_v14 = (transpose S1408x128 [1, 0] hotTable transposes_S128x1408_S1408x128_1_0 : Vec Ideal S1408x128 .bf16) := by
  unfold V
  simp only [hostOps0, hostOps0_1, hostOps0_2, List.flatten_cons, List.flatten_nil, List.append_nil, List.cons_append, List.nil_append]
  after_results
  simp -implicitDefEqProofs only [TRef.toBuf, TRef.ofBuf, cast_cast, cast_eq]
  rfl

theorem rows_eq : V m c main_v13 = rows := by
  unfold V
  simp only [hostOps0, hostOps0_1, hostOps0_2, List.flatten_cons, List.flatten_nil, List.append_nil, List.cons_append, List.nil_append]
  after_results
  rfl

end Cert.Histogram.Prefix

end
-- ==== Proof.Final.lean ====
/-
  What the kernel's result array holds after the call: every element is the share of its column's membership at its row and
  its column's feature.
-/
module

public import proofs.«01_k».proof.Proof.Prefix

@[expose] public section

noncomputable section

namespace Cert.Histogram.Final

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The rows of the input. -/
def rowsOf (x : FVec Ideal S16x2048x128 .f32) : FVec Ideal S32768x128 .f32 :=
  shapeCast S32768x128 x shapeCasts_S16x2048x128_S32768x128

/-- The result array, of the input. -/
def result (x : FVec Ideal S16x2048x128 .f32) : FVec Ideal S32768x1408 .f32 :=
  fun i => share (memb (i 1)) (rowsOf x (ix2 (i 0) (Block.feat (i 1))))

theorem hz : (![0, 0] : Fin 2 → Nat) = fun _ => 0 := funext fun a => by fin_cases a <;> rfl

/-- The three tables' windows stay at block (0, 0); the input's and the result's move down by one block a point. -/
theorem index0 : ∀ t : Fin cfg0.N, win0_0.index t 0 = t.val ∧ win0_0.index t 1 = 0 := by
  show ∀ t : Fin grid0.N, _
  decide +kernel
theorem index1 : ∀ t : Fin cfg0.N, win0_1.index t 0 = 0 ∧ win0_1.index t 1 = 0 := by
  show ∀ t : Fin grid0.N, _
  decide +kernel
theorem index2 : ∀ t : Fin cfg0.N, win0_2.index t 0 = 0 ∧ win0_2.index t 1 = 0 := by
  show ∀ t : Fin grid0.N, _
  decide +kernel
theorem index3 : ∀ t : Fin cfg0.N, win0_3.index t 0 = 0 ∧ win0_3.index t 1 = 0 := by
  show ∀ t : Fin grid0.N, _
  decide +kernel
theorem index4 : ∀ t : Fin cfg0.N, win0_4.index t 0 = t.val ∧ win0_4.index t 1 = 0 := by
  show ∀ t : Fin grid0.N, _
  decide +kernel

/-- Block `t` of the input is its rows `256 t … 256 t + 255`. -/
theorem blk0_at (t : Fin cfg0.N) (r : Fin 256) (f : Fin 128) (h : 256 * t.val + r.val < 32768) :
    (iblk m c 0 t : Vec Ideal S256x128 .f32) (ix2 r f) = rowsOf (m ((c : Thread nD τ).loc main_arg0)) (ix2 ⟨256 * t.val + r.val, h⟩ f) := by
  unfold iblk
  rw [View.read_apply]
  show V m c main_v0 _ = _
  rw [Prefix.x_eq]
  show rowsOf _ _ = rowsOf _ _
  congr 1
  apply Shape.idx_ext₂
  · show win0_0.index t 0 * 256 + 1 * r.val = 256 * t.val + r.val
    rw [(index0 t).1]; omega
  · show win0_0.index t 1 * 128 + 1 * f.val = f.val
    rw [(index0 t).2]; omega

theorem blk1_at (t : Fin cfg0.N) (f : Fin 128) (o : Fin 1408) :
    (iblk m c 1 t : Vec Ideal S128x1408 .bf16) (ix2 f o) = Block.hot f o := by
  rw [← Prefix.hotTable_at]
  unfold iblk
  rw [View.read_apply]
  show V m c main_v6 _ = _
  rw [Prefix.hot_eq]
  congr 1
  apply Shape.idx_ext₂
  · show win0_1.index t 0 * 128 + 1 * f.val = f.val
    rw [(index1 t).1]; omega
  · show win0_1.index t 1 * 1408 + 1 * o.val = o.val
    rw [(index1 t).2]; omega

theorem blk2_at (t : Fin cfg0.N) (o : Fin 1408) (f : Fin 128) :
    (iblk m c 2 t : Vec Ideal S1408x128 .bf16) (ix2 o f) = Block.hot f o := by
  have e : (transpose S1408x128 [1, 0] Prefix.hotTable transposes_S128x1408_S1408x128_1_0 : Vec Ideal S1408x128 .bf16) (ix2 o f) = Block.hot f o := by
    rw [← Prefix.hotTable_at]
    pointwise []
  rw [← e]
  unfold iblk
  rw [View.read_apply]
  show V m c main_v14 _ = _
  rw [Prefix.hotT_eq]
  congr 1
  apply Shape.idx_ext₂
  · show win0_2.index t 0 * 1408 + 1 * o.val = o.val
    rw [(index2 t).1]; omega
  · show win0_2.index t 1 * 128 + 1 * f.val = f.val
    rw [(index2 t).2]; omega

theorem blk3_at (t : Fin cfg0.N) (a : Fin 8) (o : Fin 1408) :
    (iblk m c 3 t : Vec Ideal S8x1408 .f32) (ix2 a o) = Prefix.rows (ix2 a o) := by
  unfold iblk
  rw [View.read_apply]
  show V m c main_v13 _ = _
  rw [Prefix.rows_eq]
  congr 1
  apply Shape.idx_ext₂
  · show win0_3.index t 0 * 8 + 1 * a.val = a.val
    rw [(index3 t).1]; omega
  · show win0_3.index t 1 * 1408 + 1 * o.val = o.val
    rw [(index3 t).2]; omega

/-- What point `t` writes back is block `t` of the result. -/
theorem flushed_eq (t : Fin cfg0.N) (_ : (cfg0.win 4).flush t = true) :
    (dats m 0 c).flushed 4 t = ((cfg0.win 4).blk t).view.read (Elt Ideal) (result (m ((c : Thread nD τ).loc main_arg0))) := by
  rw [Cert.KernelIdeal.Value.flushed4]
  unfold out0_4
  rw [View.canon_unit_zero hz]
  funext j
  obtain ⟨r, o, rfl⟩ : ∃ (r : Fin 256) (o : Fin 1408), j = ix2 r o := ⟨j 0, j 1, eq_ix2 j⟩
  have ht : t.val < 128 := lt_of_lt_of_eq t.isLt N_0
  have hlt : 256 * t.val + r.val < 32768 := by have := r.isLt; omega
  show k0_pay1 (F := Ideal) _ _ _ _ _ (ix2 r o) = _
  rw [View.ld_unit_zero hz, View.ld_unit_zero hz, View.ld_unit_zero hz, Block.pay_share _ _ _ _ _ (blk1_at m c t) (blk2_at m c t)]
  · rw [blk0_at m c t r (Block.feat o) hlt, View.read_apply]
    have e : ((cfg0.win 4).blk t).view.emb (ix2 r o) = (ix2 ⟨256 * t.val + r.val, hlt⟩ o : S32768x1408.Idx) := by
      apply Shape.idx_ext₂
      · show win0_4.index t 0 * 256 + 1 * r.val = 256 * t.val + r.val
        rw [(index4 t).1]; omega
      · show win0_4.index t 1 * 1408 + 1 * o.val = o.val
        rw [(index4 t).2]; omega
    rw [e]
    rfl
  · intro o
    rw [← Prefix.rows_centre, ← blk3_at m c t]
    pointwise []
  · intro o
    rw [← Prefix.rows_coef, ← blk3_at m c t]
    pointwise []

/-- Row `n` lies in the block of point `n / 256`. -/
theorem cover (i : S32768x1408.Idx) : ∃ t : Fin cfg0.N, (cfg0.win 4).flush t = true ∧ i ∈ ((cfg0.win 4).blk t).view.set := by
  have h0 : (i 0 : Nat) < 32768 := (i 0).isLt
  have h1 : (i 1 : Nat) < 1408 := (i 1).isLt
  have hN : cfg0.N = 128 := N_0
  let t : Fin cfg0.N := ⟨(i 0 : Nat) / 256, by rw [hN]; omega⟩
  refine ⟨t, flush0_4 t, ?_⟩
  show i ∈ ((View.whole main_v15).slice (win0_4.rect t)).set
  rw [View.set_slice_whole, Rect.mem_set_unit]
  intro a
  match a with
  | ⟨0, _⟩ =>
    show win0_4.index t 0 * 256 ≤ (i 0 : Nat) ∧ (i 0 : Nat) < win0_4.index t 0 * 256 + 256
    rw [(index4 t).1]
    show (i 0 : Nat) / 256 * 256 ≤ _ ∧ _ < (i 0 : Nat) / 256 * 256 + 256
    omega
  | ⟨1, _⟩ =>
    show win0_4.index t 1 * 1408 ≤ (i 1 : Nat) ∧ (i 1 : Nat) < win0_4.index t 1 * 1408 + 1408
    rw [(index4 t).2]
    omega

/-- So the result array ends holding the shares. -/
theorem final : (dats m 0 c).arrAt 4 cfg0.N = result (m ((c : Thread nD τ).loc main_arg0)) :=
  (dats m 0 c).arrAt_eq_of_cover 4 (result (m ((c : Thread nD τ).loc main_arg0))) (flushed_eq m c) cover

/-- The run, read: the result array at the shares, the argument unchanged. -/
theorem run : θ_run defs (onTc (τ := τ) (main (F := Ideal))) ⟨m, fun _ => 0, ρ⟩ fun r => ∀ c : Dev nD,
      r.2.mem ((c : Thread nD τ).loc main_v15) = result (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩) (Cert.KernelIdeal.Value.run_blocks m ρ)

end Cert.Histogram.Final

end
-- ==== Proof.Reference.lean ====
/-
  What the reference computes, element by element, over the extended reals: the share of each membership.
-/
module

public import proofs.«01_k».proof.Proof.Tables
public import proofs.«01_k».proof.Proof.Gen.ReferenceIdeal.Run
public import Idealize.ShloMosaic.Lib.Pointwise

@[expose] public section

noncomputable section

namespace Cert.Histogram.Reference

open Cert.ReferenceIdeal Cert.ReferenceIdeal.Gen Idealize.ShloMosaic Idealize.ShloMosaic.TcCoe Idealize.SL.Sem Idealize.ShloMosaic.StableHlo

/-- One membership of the whole input: the density of centre word `mw` and width word `sw` over its value at the centre, with
    a last axis of one entry for the eleven to be laid side by side. -/
def piece (mw sw : BitVec 32) (x : FVec Ideal S16x2048x128 .f32) : FVec Ideal S16x2048x128x1 .f32 :=
  broadcastInDim S16x2048x128x1 ![0, 1, 2] bcast_S16x2048x128_S16x2048x128x1_0_1_2
    (Host.divf (Host.divf (Host.exp (mulf (broadcastInDim S16x2048x128 ![] bcast_S_S16x2048x128 (constant S_ .f32 0xBF000000#32))
          (mulf (Host.divf (subf x (broadcastInDim S16x2048x128 ![] bcast_S_S16x2048x128 (constant S_ .f32 mw)))
                (broadcastInDim S16x2048x128 ![] bcast_S_S16x2048x128 (constant S_ .f32 sw)))
              (Host.divf (subf x (broadcastInDim S16x2048x128 ![] bcast_S_S16x2048x128 (constant S_ .f32 mw)))
                (broadcastInDim S16x2048x128 ![] bcast_S_S16x2048x128 (constant S_ .f32 sw))))))
        (broadcastInDim S16x2048x128 ![] bcast_S_S16x2048x128 (id (mulf (constant S_ .f32 sw) (Host.sqrt (constant S_ .f32 0x40C90FDB#32))))))
      (broadcastInDim S16x2048x128 ![] bcast_S_S16x2048x128
        (Host.divf (Host.exp (mulf (constant S_ .f32 0xBF000000#32)
            (mulf (Host.divf (subf (constant S_ .f32 mw) (constant S_ .f32 mw)) (constant S_ .f32 sw))
              (Host.divf (subf (constant S_ .f32 mw) (constant S_ .f32 mw)) (constant S_ .f32 sw)))))
          (id (mulf (constant S_ .f32 sw) (Host.sqrt (constant S_ .f32 0x40C90FDB#32)))))))

theorem piece_at (k : Fin 11) (x : FVec Ideal S16x2048x128 .f32) (a : Fin 16) (b : Fin 2048) (f : Fin 128) (z : Fin 1) :
    piece (muW k) (sgW k) x (ix4 a b f z) = member k (x (ix3 a b f)) := by
  rw [← member_ratio]
  pointwise [piece, id]

/-- The eleven memberships side by side. -/
def members (x : FVec Ideal S16x2048x128 .f32) : FVec Ideal S16x2048x128x11 .f32 :=
  concatenate S16x2048x128x11 3
    [⟨S16x2048x128x1, piece (muW 0) (sgW 0) x⟩, ⟨S16x2048x128x1, piece (muW 1) (sgW 1) x⟩, ⟨S16x2048x128x1, piece (muW 2) (sgW 2) x⟩,
     ⟨S16x2048x128x1, piece (muW 3) (sgW 3) x⟩, ⟨S16x2048x128x1, piece (muW 4) (sgW 4) x⟩, ⟨S16x2048x128x1, piece (muW 5) (sgW 5) x⟩,
     ⟨S16x2048x128x1, piece (muW 6) (sgW 6) x⟩, ⟨S16x2048x128x1, piece (muW 7) (sgW 7) x⟩, ⟨S16x2048x128x1, piece (muW 8) (sgW 8) x⟩,
     ⟨S16x2048x128x1, piece (muW 9) (sgW 9) x⟩, ⟨S16x2048x128x1, piece (muW 10) (sgW 10) x⟩]
    concatenates_S16x2048x128x1_S16x2048x128x1_S16x2048x128x1_S16x2048x128x1_S16x2048x128x1_S16x2048x128x1_S16x2048x128x1_S16x2048x128x1_S16x2048x128x1_S16x2048x128x1_S16x2048x128x1_S16x2048x128x11_d3

theorem members_eq (L : Valuation τ sig (Elt Ideal)) :
    Cert.ReferenceIdeal.Value.res_main_v275 L = members (L (Proc.devRef .tc main_arg0)) := rfl

theorem members_at (x : FVec Ideal S16x2048x128 .f32) (a : Fin 16) (b : Fin 2048) (f : Fin 128) (k : Fin 11) :
    members x (ix4 a b f k) = member k (x (ix3 a b f)) := by
  pointwise [members]
  fin_vals k with hk
  all_goals
    simp only [hk, Nat.reduceSub, Nat.reduceLT, ↓reduceDIte]
    rw [piece_at]
    exact congrArg (fun k => member k (x (ix3 a b f))) (Fin.ext hk.symm)

/-- The reference's result, of the input. -/
def result (x : FVec Ideal S16x2048x128 .f32) : FVec Ideal S32768x1408 .f32 :=
  shapeCast S32768x1408 (Host.divf (members x) (broadcastInDim S16x2048x128x11 ![0, 1, 2, 3] bcast_S16x2048x128x1_S16x2048x128x11_0_1_2_3
    (addf (broadcastInDim S16x2048x128x1 ![0, 1, 2] bcast_S16x2048x128_S16x2048x128x1_0_1_2
        (Host.reduceAdd (members x) (constant S_ .f32 0x00000000#32) reducesTo_S16x2048x128x11_S16x2048x128_d3 h_S_))
      (broadcastInDim S16x2048x128x1 ![] bcast_S_S16x2048x128x1 (constant S_ .f32 0x3089705F#32)))))
    shapeCasts_S16x2048x128x11_S32768x1408

theorem result_at (x : FVec Ideal S16x2048x128 .f32) (n : Fin 32768) (o : Fin 1408) :
    result x (ix2 n o) = share (memb o) (x (ix3 ⟨n.val / 2048, by have := n.isLt; omega⟩ ⟨n.val % 2048, by omega⟩
      ⟨o.val / 11, by have := o.isLt; omega⟩)) := by
  pointwise [result, members_at]
  rfl

variable (m : (ℓ : Loc nD τ sig) → Buf (Elt Ideal) ℓ) (ρ : Dev nD → PrngReg)

/-- The run, read: the result at the shares, the argument unchanged. -/
theorem run : θ_run defs (onTc (τ := τ) (main (F := Ideal))) ⟨m, fun _ => 0, ρ⟩ fun r => ∀ c : Dev nD,
      r.2.mem ((c : Thread nD τ).loc main_v282) = result (m ((c : Thread nD τ).loc main_arg0))
      ∧ r.2.mem ((c : Thread nD τ).loc main_arg0) = m ((c : Thread nD τ).loc main_arg0) :=
  (θ_run defs _ _).mono (fun _ h c => ⟨(h c).1.trans (by rw [members_eq]; rfl), (h c).2⟩) (Cert.ReferenceIdeal.Value.run m ρ)

end Cert.Histogram.Reference

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Final
public import proofs.«01_k».proof.Proof.Reference
public import Idealize.ShloMosaic.Lib.Quiescent

@[expose] public section

noncomputable section

namespace Cert.Proof

open Idealize.ShloMosaic Idealize.ShloMosaic.TcCoe Idealize.SL.Sem Cert.Histogram

/-- Both programs hold the same shares: the kernel's rows are the reference's reshaped input. -/
theorem results_eq (x : FVec Ideal Cert.KernelIdeal.S16x2048x128 .f32) : Final.result x = Reference.result x := by
  funext i
  obtain ⟨n, o, rfl⟩ : ∃ (n : Fin 32768) (o : Fin 1408), i = ix2 n o := ⟨i 0, i 1, eq_ix2 i⟩
  rw [Reference.result_at]
  show share (memb o) (Final.rowsOf x (ix2 n (Block.feat o))) = _
  pointwise [Final.rowsOf]
  rfl

/-- The reference's frame: its run read at the argument; it declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Reference.run m ρ)

/-- THE VALUE: the kernel's result array is the reference's, for all inputs. -/
theorem value : Cert.algebraic_KernelIdeal_ReferenceIdeal := fun m ρ m' ρ' _ harg =>
  ⟨fun c => Final.result (m ((c : Thread Cert.KernelIdeal.nD Cert.KernelIdeal.τ).loc Cert.KernelIdeal.main_arg0)), Final.run m ρ,
    (θ_run Cert.ReferenceIdeal.defs _ _).mono
      (fun _ h c => ⟨(h c).1.trans (by rw [harg c]; exact (results_eq _).symm), (h c).2⟩) (Reference.run m' ρ')⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, value⟩

end Cert.Proof

end
